-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x220 : Shape := ⟨2, ![4096, 220]⟩
abbrev S100000x64 : Shape := ⟨2, ![100000, 64]⟩
abbrev S20x64 : Shape := ⟨2, ![20, 64]⟩
abbrev S_ : Shape := ⟨0, ![]⟩

class Facts : Prop where
  bcast_S_S4096x220 : S_.BroadcastsInDim S4096x220 (![] : Fin 0 → Fin S4096x220.rank)
  reducesTo_S4096x220_S_d0_1 : S4096x220.ReducesTo [0, 1] S_
  h_S_ : 0 < S_.numel

variable [Facts]

def fn {F : FTy → Type} [FloatOps F] (main_arg0 : IVec S4096x220 32) (main_arg1 : FVec F S100000x64 .f32) (main_arg2 : FVec F S20x64 .f32) : IVec S_ 1 :=
  let main_c : IVec S_ 32 := constantI S_ 32 0#32
  let main_v0 : IVec S4096x220 32 := broadcastInDim S4096x220 ![] bcast_S_S4096x220 main_c
  let main_v1 : IVec S4096x220 1 := cmpi .sge main_arg0 main_v0
  let main_c_0 : IVec S_ 32 := constantI S_ 32 20#32
  let main_v2 : IVec S4096x220 32 := broadcastInDim S4096x220 ![] bcast_S_S4096x220 main_c_0
  let main_v3 : IVec S4096x220 1 := cmpi .slt main_arg0 main_v2
  let main_v4 : IVec S4096x220 1 := andi main_v1 main_v3
  let main_c_1 : IVec S_ 1 := constantI S_ 1 1#1
  let main_v5 : IVec S_ 1 := (fun x v => Host.reduce IntOp.andi x v reducesTo_S4096x220_S_d0_1 h_S_) main_v4 main_c_1
  main_v5
-- ==== Kernel.lean ====
abbrev S4096x220 : Shape := ⟨2, ![4096, 220]⟩
abbrev S100000x64 : Shape := ⟨2, ![100000, 64]⟩
abbrev S20x64 : Shape := ⟨2, ![20, 64]⟩
abbrev S32x1x28160 : Shape := ⟨3, ![32, 1, 28160]⟩
abbrev S40x64 : Shape := ⟨2, ![40, 64]⟩
abbrev S4096x220x64 : Shape := ⟨3, ![4096, 220, 64]⟩
abbrev S1x1x28160 : Shape := ⟨3, ![1, 1, 28160]⟩
abbrev S128x220x64 : Shape := ⟨3, ![128, 220, 64]⟩
abbrev S1x28160 : Shape := ⟨2, ![1, 28160]⟩
abbrev S40x28160 : Shape := ⟨2, ![40, 28160]⟩
abbrev S28160x64 : Shape := ⟨2, ![28160, 64]⟩

abbrev nBuf : Space → Nat
  | .hbm => 7
  | .vmem => 5
  | .smem => 0
  | _ => 0

abbrev bufTy : (tb : Table) → Fin (tcTables nBuf tb) → BufTy
  | .hbm, ⟨0, _⟩ => ⟨S4096x220, .i32⟩
  | .hbm, ⟨1, _⟩ => ⟨S100000x64, .f32⟩
  | .hbm, ⟨2, _⟩ => ⟨S20x64, .f32⟩
  | .hbm, ⟨3, _⟩ => ⟨S32x1x28160, .i32⟩
  | .hbm, ⟨4, _⟩ => ⟨S20x64, .f32⟩
  | .hbm, ⟨5, _⟩ => ⟨S40x64, .f32⟩
  | .hbm, ⟨6, _⟩ => ⟨S4096x220x64, .f32⟩
  | .local _ .vmem, ⟨0, _⟩ => ⟨S1x1x28160, .i32⟩
  | .local _ .vmem, ⟨1, _⟩ => ⟨S1x1x28160, .i32⟩
  | .local _ .vmem, ⟨2, _⟩ => ⟨S40x64, .f32⟩
  | .local _ .vmem, ⟨3, _⟩ => ⟨S128x220x64, .f32⟩
  | .local _ .vmem, ⟨4, _⟩ => ⟨S128x220x64, .f32⟩
  | _, _ => ⟨S4096x220, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x28160 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x220x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x220 : Shape := ⟨2, ![4096, 220]⟩
abbrev S100000x64 : Shape := ⟨2, ![100000, 64]⟩
abbrev S20x64 : Shape := ⟨2, ![20, 64]⟩
abbrev S4096x20 : Shape := ⟨2, ![4096, 20]⟩
abbrev S4096x200 : Shape := ⟨2, ![4096, 200]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x64 : Shape := ⟨3, ![4096, 20, 64]⟩
abbrev S4096x200x1 : Shape := ⟨3, ![4096, 200, 1]⟩
abbrev S4096x200x64 : Shape := ⟨3, ![4096, 200, 64]⟩
abbrev S4096x220x64 : Shape := ⟨3, ![4096, 220, 64]⟩

abbrev nBuf : Space → Nat
  | .hbm => 52
  | .vmem => 0
  | .smem => 0
  | _ => 0

abbrev bufTy : (tb : Table) → Fin (tcTables nBuf tb) → BufTy
  | .hbm, ⟨0, _⟩ => ⟨S4096x220, .i32⟩
  | .hbm, ⟨1, _⟩ => ⟨S100000x64, .f32⟩
  | .hbm, ⟨2, _⟩ => ⟨S20x64, .f32⟩
  | .hbm, ⟨3, _⟩ => ⟨S4096x20, .i32⟩
  | .hbm, ⟨4, _⟩ => ⟨S4096x200, .i32⟩
  | .hbm, ⟨5, _⟩ => ⟨S_, .i32⟩
  | .hbm, ⟨6, _⟩ => ⟨S4096x20, .i32⟩
  | .hbm, ⟨7, _⟩ => ⟨S4096x20, .i1⟩
  | .hbm, ⟨8, _⟩ => ⟨S_, .i32⟩
  | .hbm, ⟨9, _⟩ => ⟨S4096x20, .i32⟩
  | .hbm, ⟨10, _⟩ => ⟨S4096x20, .i32⟩
  | .hbm, ⟨11, _⟩ => ⟨S4096x20, .i32⟩
  | .hbm, ⟨12, _⟩ => ⟨S4096x20x1, .i32⟩
  | .hbm, ⟨13, _⟩ => ⟨S1, .i32⟩
  | .hbm, ⟨14, _⟩ => ⟨S_, .i32⟩
  | .hbm, ⟨15, _⟩ => ⟨S4096x20x1, .i32⟩
  | .hbm, ⟨16, _⟩ => ⟨S4096x20x1, .i1⟩
  | .hbm, ⟨17, _⟩ => ⟨S1x1x1, .i32⟩
  | .hbm, ⟨18, _⟩ => ⟨S4096x20x1, .i32⟩
  | .hbm, ⟨19, _⟩ => ⟨S4096x20x1, .i1⟩
  | .hbm, ⟨20, _⟩ => ⟨S4096x20x1, .i1⟩
  | .hbm, ⟨21, _⟩ => ⟨S_, .i1⟩
  | .hbm, ⟨22, _⟩ => ⟨S4096x20, .i1⟩
  | .hbm, ⟨23, _⟩ => ⟨S4096x20x64, .f32⟩
  | .hbm, ⟨24, _⟩ => ⟨S4096x20x64, .i1⟩
  | .hbm, ⟨25, _⟩ => ⟨S_, .f32⟩
  | .hbm, ⟨26, _⟩ => ⟨S4096x20x64, .f32⟩
  | .hbm, ⟨27, _⟩ => ⟨S4096x20x64, .f32⟩
  | .hbm, ⟨28, _⟩ => ⟨S_, .i32⟩
  | .hbm, ⟨29, _⟩ => ⟨S4096x200, .i32⟩
  | .hbm, ⟨30, _⟩ => ⟨S4096x200, .i1⟩
  | .hbm, ⟨31, _⟩ => ⟨S_, .i32⟩
  | .hbm, ⟨32, _⟩ => ⟨S4096x200, .i32⟩
  | .hbm, ⟨33, _⟩ => ⟨S4096x200, .i32⟩
  | .hbm, ⟨34, _⟩ => ⟨S4096x200, .i32⟩
  | .hbm, ⟨35, _⟩ => ⟨S4096x200x1, .i32⟩
  | .hbm, ⟨36, _⟩ => ⟨S1, .i32⟩
  | .hbm, ⟨37, _⟩ => ⟨S_, .i32⟩
  | .hbm, ⟨38, _⟩ => ⟨S4096x200x1, .i32⟩
  | .hbm, ⟨39, _⟩ => ⟨S4096x200x1, .i1⟩
  | .hbm, ⟨40, _⟩ => ⟨S1x1x1, .i32⟩
  | .hbm, ⟨41, _⟩ => ⟨S4096x200x1, .i32⟩
  | .hbm, ⟨42, _⟩ => ⟨S4096x200x1, .i1⟩
  | .hbm, ⟨43, _⟩ => ⟨S4096x200x1, .i1⟩
  | .hbm, ⟨44, _⟩ => ⟨S_, .i1⟩
  | .hbm, ⟨45, _⟩ => ⟨S4096x200, .i1⟩
  | .hbm, ⟨46, _⟩ => ⟨S4096x200x64, .f32⟩
  | .hbm, ⟨47, _⟩ => ⟨S4096x200x64, .i1⟩
  | .hbm, ⟨48, _⟩ => ⟨S_, .f32⟩
  | .hbm, ⟨49, _⟩ => ⟨S4096x200x64, .f32⟩
  | .hbm, ⟨50, _⟩ => ⟨S4096x200x64, .f32⟩
  | .hbm, ⟨51, _⟩ => ⟨S4096x220x64, .f32⟩
  | _, _ => ⟨S4096x220, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩

abbrev nD : Nat := 1
abbrev τ : Topo := Topo.v7x

variable {F : FTy → Type} [FloatOps F]
-- ==== Proof.Spec.lean ====
/- The mathematics of the problem, apart from any program: the embedding that the two tables give, and what an index
   word in range is. -/
module

public import Idealize.ShloMosaic.Lib.Pointwise

@[expose] public section

noncomputable section

namespace Cert.Lookup

open Idealize.ShloMosaic

/-- The index array's shape: 4096 sequences of 220 positions. -/
abbrev Ids : Shape := ⟨2, ![4096, 220]⟩
/-- The shared table: 100000 rows of 64 numbers. -/
abbrev Shared : Shape := ⟨2, ![100000, 64]⟩
/-- The prompt table: 20 rows of 64 numbers. -/
abbrev Prompt : Shape := ⟨2, ![20, 64]⟩
/-- The result: one row of 64 numbers for each position. -/
abbrev Out : Shape := ⟨3, ![4096, 220, 64]⟩

/-- Every index word is one of 0, …, 19. -/
def InRange (ids : IVec Ids 32) : Prop := ∀ (b : Fin 4096) (s : Fin 220), (ids (ix2 b s)).toNat < 20

/-- The row that an index word names, as a number below 20 (a word in range names itself). -/
def row (w : BitVec 32) : Fin 20 := ⟨w.toNat % 20, Nat.mod_lt _ (by decide)⟩

/-- A word in range is the word of the row it names. -/
theorem eq_ofNat_row (w : BitVec 32) (h : w.toNat < 20) : w = BitVec.ofNat 32 (row w).val := by
  apply BitVec.eq_of_toNat_eq
  show w.toNat = (BitVec.ofNat 32 (w.toNat % 20)).toNat
  rw [BitVec.toNat_ofNat]
  omega

/-- A row number of the prompt table as a row number of the shared table. -/
def wide (r : Fin 20) : Fin 100000 := ⟨r.val, by omega⟩

/-- The embedding of position `s` of sequence `b`, at component `e`: from the prompt table at the first 20 positions, from
    the shared table at the others. -/
def embed {α : Type} (ids : IVec Ids 32) (shared : Shared.Idx → α) (prompt : Prompt.Idx → α)
    (b : Fin 4096) (s : Fin 220) (e : Fin 64) : α :=
  if s.val < 20 then prompt (ix2 (row (ids (ix2 b s))) e) else shared (ix2 (wide (row (ids (ix2 b s)))) e)

end Cert.Lookup

end
-- ==== Proof.Pre.lean ====
/- What the precondition says: every index word is one of 0, …, 19. -/
module

public import proofs.«01_k».proof.Proof.Gen.Pre_in_range
public import proofs.«01_k».proof.Proof.Spec
public import Idealize.ShloMosaic.Lib.ReduceAll

@[expose] public section

noncomputable section

namespace Cert.Pre_in_range.Read

open Cert.Pre_in_range Cert.Lookup Idealize.ShloMosaic

/-- A word that is at least 0 and below 20, both compared as signed, is below 20. -/
theorem toNat_lt (w : BitVec 32) (h0 : IntOp.cmpi .sge w 0#32 = 1#1) (h1 : IntOp.cmpi .slt w 20#32 = 1#1) : w.toNat < 20 := by
  rw [IntOp.cmpi_sge, show (0#32 : BitVec 32).toInt = 0 from by decide] at h0
  rw [IntOp.cmpi_slt, show (20#32 : BitVec 32).toInt = 20 from by decide] at h1
  rw [BitVec.toInt_eq_toNat_cond] at h0 h1
  have h : w.toNat < 2 ^ 32 := w.isLt
  split at h1 <;> omega

/-- THE PRECONDITION READ BACK: where it is true at an index array, every word of the array is in range. -/
theorem inRange (ids : IVec Ids 32) (shared : FVec Ideal Shared .f32) (prompt : FVec Ideal Prompt .f32)
    (h : fn (F := Ideal) ids shared prompt = fun _ => 1#1) : InRange ids := by
  intro b s
  haveI : Subsingleton S_.Idx := ⟨fun a b => funext fun k => k.elim0⟩
  have e := Host.reduce_andi_all _ _ _ _ ix0 (congrFun h ix0) (ix2 b s)
  obtain ⟨h0, h1⟩ := IntOp.andi_eq_one.1 e
  exact toNat_lt _ h0 h1

end Cert.Pre_in_range.Read

end
-- ==== Proof.Gather.lean ====
/- The gather that `jnp.take(table, ids, axis=0)` is, for a table of rows and a rectangle of row numbers, read at one element. -/
module

public import Idealize.ShloMosaic.Lib.Pointwise

@[expose] public section

noncomputable section

namespace Cert.Lookup

open Idealize.ShloMosaic

/-- The dimension numbers of that gather: axis 0 of the table is looked up and dropped, axis 1 is copied whole to the
    result's last axis. -/
abbrev rowDims (N E B S : Nat)
    (wf : GatherDims.WF ⟨2, ![N, E]⟩ ⟨3, ![B, S, 1]⟩ ⟨3, ![B, S, E]⟩ [2] [0] [] [0] [] 2 ![1, E]) :
    GatherDims ⟨2, ![N, E]⟩ ⟨3, ![B, S, 1]⟩ ⟨3, ![B, S, E]⟩ where
  offsetDims := [2]
  collapsedSliceDims := [0]
  operandBatchingDims := []
  startIndicesBatchingDims := []
  startIndexMap := [0]
  indexVectorDim := 2
  sliceSizes := ![1, E]
  wf := wf

/-- Where the row numbers hold a number `r` of a row of the table, result row `(b, s)` is the table's row `r`. -/
theorem gather_rows {α : Type} {N E B S w : Nat}
    (wf : GatherDims.WF ⟨2, ![N, E]⟩ ⟨3, ![B, S, 1]⟩ ⟨3, ![B, S, E]⟩ [2] [0] [] [0] [] 2 ![1, E])
    (x : (⟨2, ![N, E]⟩ : Shape).Idx → α) (ids : IVec ⟨3, ![B, S, 1]⟩ w) (b : Fin B) (s : Fin S) (e : Fin E) (r : Fin N)
    (hr : (ids (ix3 b s 0)).toInt.toNat = r.val) :
    Host.gather (rowDims N E B S wf) x ids (ix3 b s e) = x (ix2 r e) := by
  unfold Host.gather
  congr 1
  funext a
  refine Fin.ext ?_
  show (rowDims N E B S wf).start (ix3 b s e) ids a + (rowDims N E B S wf).batchCoord (ix3 b s e) a
      + (rowDims N E B S wf).offCoord (ix3 b s e) a = _
  rw [GatherDims.batchCoord_eq_zero _ _ _ List.not_mem_nil, Nat.add_zero]
  match a with
  | ⟨0, _⟩ =>
    rw [GatherDims.offCoord_eq_zero _ _ _ fun h => ((GatherDims.mem_sKept _ _).mp h).1 (List.mem_singleton.mpr rfl),
      Nat.add_zero]
    have hm : (⟨0, Nat.succ_pos 1⟩ : Fin (⟨2, ![N, E]⟩ : Shape).rank) ∈ (rowDims N E B S wf).startIndexMap :=
      List.mem_singleton.mpr rfl
    have at_ids : (rowDims N E B S wf).siIdx (ix3 b s e) ⟨List.idxOf _ (rowDims N E B S wf).startIndexMap,
        List.idxOf_lt_length_iff.2 hm⟩ = ix3 b s 0 := by
      funext k
      refine Fin.ext ?_
      match k with
      | ⟨0, _⟩ => rfl
      | ⟨1, _⟩ => rfl
      | ⟨2, _⟩ => rfl
    unfold GatherDims.start
    rw [dif_pos hm, at_ids, hr]
    exact Nat.min_eq_left (Nat.le_sub_one_of_lt r.isLt)
  | ⟨1, _⟩ =>
    have hm : (⟨1, Nat.one_lt_two⟩ : Fin (⟨2, ![N, E]⟩ : Shape).rank) ∉ (rowDims N E B S wf).startIndexMap := fun h =>
      Nat.one_ne_zero (congrArg Fin.val (List.mem_singleton.mp h))
    unfold GatherDims.start
    rw [dif_neg hm, Nat.zero_add]
    rfl

end Cert.Lookup

end
-- ==== Proof.Ref.lean ====
/- What the reference's result array holds: at an index array in range, the embedding that the two tables give. -/
module

public import proofs.«01_k».proof.Proof.Gen.ReferenceIdeal.Run
public import proofs.«01_k».proof.Proof.Spec
public import proofs.«01_k».proof.Proof.Gather
public import Idealize.ShloMosaic.Lib.Tactic.CleanTypes

@[expose] public section

set_option maxRecDepth 16384

noncomputable section

namespace Cert.ReferenceIdeal.Lookup

open Cert.ReferenceIdeal Cert.ReferenceIdeal.Gen Cert.Lookup Idealize.ShloMosaic Idealize.SL.Sem

/-- jnp's wrap of a negative index into a table of `n` rows. -/
def wrapped (n w : BitVec 32) : BitVec 32 := Scalar.select (IntOp.cmpi .slt w 0#32) (IntOp.addi w n) w

/-- It leaves a row number below 20 as it is, whatever the table's length. -/
theorem wrapped_row (n : BitVec 32) (r : Fin 20) : wrapped n (BitVec.ofNat 32 r.val) = BitVec.ofNat 32 r.val := by
  have h : ∀ r : Fin 20, IntOp.cmpi .slt (BitVec.ofNat 32 r.val) 0#32 = 0#1 := by decide
  unfold wrapped
  rw [h r]
  rfl

/-- jnp's test that a wrapped index is inside a table whose last row is `last`. -/
def inside (last w : BitVec 32) : BitVec 1 :=
  Finset.fold IntOp.andi (1#1) (fun _ : Fin 1 => IntOp.andi (IntOp.cmpi .sge w 0#32) (IntOp.cmpi .sle w last)) Finset.univ

/-- A row number below 20 passes it for the prompt table. -/
theorem inside_prompt : ∀ r : Fin 20, inside 19#32 (BitVec.ofNat 32 r.val) = 1#1 := by decide +kernel

/-- A row number below 20 passes it for the shared table. -/
theorem inside_shared : ∀ r : Fin 20, inside 99999#32 (BitVec.ofNat 32 r.val) = 1#1 := by decide +kernel

/-- So the guarded lookup is the gathered value. -/
theorem guarded {n last w : BitVec 32} {x z v : EReal} (r : Fin 20) (hw : w = BitVec.ofNat 32 r.val)
    (hin : inside last (BitVec.ofNat 32 r.val) = 1#1) (hx : x = v) : Scalar.select (inside last (wrapped n w)) x z = v := by
  rw [hw, wrapped_row, hin, hx]
  rfl

/-- A row number below 20 as a signed word is itself. -/
theorem toInt_row : ∀ r : Fin 20, (BitVec.ofNat 32 r.val).toInt.toNat = r.val := by decide

/-- The reference's gather from the prompt table. -/
theorem gather_prompt (x : FVec Ideal S20x64 .f32) (ids : IVec S4096x20x1 32) (b : Fin 4096) (s : Fin 20) (e : Fin 64)
    (r : Fin 20) (hr : ids (ix3 b s 0) = BitVec.ofNat 32 r.val) :
    Host.gather gather_S20x64_S4096x20x1_S4096x20x64_2_0_n_n_0_2_164 x ids (ix3 b s e) = x (ix2 r e) :=
  gather_rows gather_S20x64_S4096x20x1_S4096x20x64_2_0_n_n_0_2_164_wf x ids b s e r (by rw [hr, toInt_row])

/-- The reference's gather from the shared table. -/
theorem gather_shared (x : FVec Ideal S100000x64 .f32) (ids : IVec S4096x200x1 32) (b : Fin 4096) (s : Fin 200) (e : Fin 64)
    (r : Fin 20) (hr : ids (ix3 b s 0) = BitVec.ofNat 32 r.val) :
    Host.gather gather_S100000x64_S4096x200x1_S4096x200x64_2_0_n_n_0_2_164 x ids (ix3 b s e) = x (ix2 (wide r) e) :=
  gather_rows gather_S100000x64_S4096x200x1_S4096x200x64_2_0_n_n_0_2_164_wf x ids b s e (wide r) (by rw [hr, toInt_row]; rfl)

variable (m : (ℓ : Loc nD τ sig) → Buf (Elt Ideal) ℓ)

/-- THE REFERENCE'S VALUE: at an index array in range its result is the embedding. -/
theorem res_apply (c : Dev nD) (ids : IVec Ids 32) (hids : m ((c.tc : Thread nD τ).loc main_arg0) = ids) (hr : InRange ids)
    (b : Fin 4096) (s : Fin 220) (e : Fin 64) :
    Value.res_out0 (F := Ideal) m c (ix3 b s e)
      = embed ids (m ((c.tc : Thread nD τ).loc main_arg1)) (m ((c.tc : Thread nD τ).loc main_arg2)) b s e := by
  unfold Value.res_out0 Value.res_main_v4
  rw [hids]
  clean_types
  have hw : ∀ s' : Fin 220, s'.val = s.val → ids (ix2 b s') = BitVec.ofNat 32 (row (ids (ix2 b s))).val := fun s' h => by
    rw [Fin.ext h]
    exact eq_ofNat_row _ (hr b s)
  generalize hrow : row (ids (ix2 b s)) = r at hw
  unfold embed
  rw [hrow]
  by_cases hs : s.val < 20
  · rw [if_pos hs]
    pointwise
    rw [dif_pos hs]
    show Scalar.select (inside 19#32 (wrapped 20#32 (ids (ix2 b s)))) (_ : EReal) (_ : EReal) = _
    refine guarded r (hw _ rfl) (inside_prompt r) ?_
    refine gather_prompt _ _ b ⟨s.val, hs⟩ e r ?_
    pointwise
    exact (congrArg (wrapped 20#32) (hw _ rfl)).trans (wrapped_row _ r)
  · rw [if_neg hs]
    pointwise
    rw [dif_neg hs]
    have e1 : 20 + (s.val - 20) = s.val := by omega
    show Scalar.select (inside 99999#32 (wrapped 100000#32 (ids (ix2 b ⟨20 + (s.val - 20), by omega⟩)))) (_ : EReal) (_ : EReal) = _
    refine guarded r (hw _ e1) (inside_shared r) ?_
    refine gather_shared _ _ b ⟨s.val - 20, by omega⟩ e r ?_
    pointwise
    exact (congrArg (wrapped 100000#32) (hw _ e1)).trans (wrapped_row _ r)

end Cert.ReferenceIdeal.Lookup

end
-- ==== Proof.Block.lean ====
/- What one grid point computes: each row of its block is the table row that the position's index word selects, the
   one-hot product being a choice of one row. -/
module

public import proofs.«01_k».proof.Proof.Gen.KernelIdeal.Value
public import proofs.«01_k».proof.Proof.Spec
public import Idealize.ShloMosaic.Lib.Routing.Words

@[expose] public section

set_option maxRecDepth 16384

noncomputable section

namespace Cert.KernelIdeal.Block

open Cert.KernelIdeal Cert.KernelIdeal.Gen Cert.Lookup Idealize.ShloMosaic

/-- The row of the joined table that position `s` takes for row number `r`: the prompt table is its first half, the
    shared table's first 20 rows its second. -/
def slot (s : Fin 220) (r : Fin 20) : Fin 40 := if s.val < 20 then ⟨r.val, by omega⟩ else ⟨20 + r.val, by omega⟩

/-- The word that the kernel adds to the index of the position whose place in the sequence is `p`, as it is printed:
    the test of the floor remainder's sign, then the comparison with 20. -/
def shift (x : BitVec 32) : BitVec 32 :=
  Scalar.select (IntOp.cmpi .sge (Scalar.select (IntOp.andi (IntOp.xori (IntOp.cmpi .slt x 0#32) (Scalar.cmpi .slt (Scalar.select (Scalar.cmpi .eq 220#32 0#32) 1#32 220#32) 0#32)) (IntOp.cmpi .ne x 0#32))
    (IntOp.addi x (Scalar.select (Scalar.cmpi .eq 220#32 0#32) 1#32 220#32)) x) 20#32) 20#32 0#32

/-- It is 20 from position 20 on and 0 before. -/
theorem shift_eq : ∀ s : Fin 220, shift (BitVec.ofNat 32 s.val) = if s.val < 20 then 0#32 else 20#32 := by decide +kernel

/-- The printed remainder by the sequence length, at position `s` of the block's sequence `b`. -/
theorem rem_eq (b : Fin 128) (s : Fin 220) :
    IntOp.remsi .vector (BitVec.ofNat 32 (b.val * 220 + s.val)) (Scalar.select (Scalar.cmpi .eq 220#32 0#32) 1#32 220#32)
      = BitVec.ofNat 32 s.val := by
  have e : (Scalar.select (Scalar.cmpi .eq 220#32 0#32) 1#32 220#32 : BitVec 32) = BitVec.ofNat 32 220 := by decide
  rw [e, Routing.remsi_word _ (by omega) (by omega) (by omega)]
  congr 1
  omega

/-- An index word plus its shift is the word of the joined table's row. -/
theorem add_shift (s : Fin 220) (r : Fin 20) :
    IntOp.addi (BitVec.ofNat 32 r.val) (shift (BitVec.ofNat 32 s.val)) = BitVec.ofNat 32 (slot s r).val := by
  rw [shift_eq]
  unfold slot
  have h0 : ∀ r : Fin 20, IntOp.addi (BitVec.ofNat 32 r.val) 0#32 = BitVec.ofNat 32 r.val := by decide
  have h20 : ∀ r : Fin 20, IntOp.addi (BitVec.ofNat 32 r.val) 20#32 = BitVec.ofNat 32 (20 + r.val) := by decide
  split
  · exact h0 r
  · exact h20 r

/-- The one-hot entry: 1 in the selected row, 0 in the others. -/
theorem hot_eq (a k : Fin 40) :
    (FloatOps.sitofp (F := Ideal) .f32 (BitVec.setWidth 32 (IntOp.cmpi .eq (BitVec.ofNat 32 a.val) (BitVec.ofNat 32 k.val))) : EReal)
      = if k = a then 1 else 0 := by
  have h : ∀ a k : Fin 40, (BitVec.setWidth 32 (IntOp.cmpi .eq (BitVec.ofNat 32 a.val) (BitVec.ofNat 32 k.val))).toInt
      = if k = a then 1 else 0 := by decide +kernel
  show (((BitVec.setWidth 32 (IntOp.cmpi .eq (BitVec.ofNat 32 a.val) (BitVec.ofNat 32 k.val))).toInt : ℝ) : EReal) = _
  rw [h]
  split <;> simp

/-- THE BLOCK: where the index words are the words of row numbers, the payload is the row of the joined table that the
    position selects. -/
theorem pay_apply (idx : IVec S1x1x28160 32) (tbl : FVec Ideal S40x64 .f32) (b : Fin 128) (s : Fin 220) (e : Fin 64)
    (r : Fin 20) (hr : ∀ j : Fin 28160, j.val = b.val * 220 + s.val → idx (ix3 0 0 j) = BitVec.ofNat 32 r.val) :
    k0_pay1 (F := Ideal) idx tbl (ix3 b s e) = tbl (ix2 (slot s r) e) := by
  pointwise [k0_pay1]
  show ∑ k : Fin 40, (FloatOps.sitofp (F := Ideal) .f32 (BitVec.setWidth 32 (IntOp.cmpi .eq
      (IntOp.addi (idx (ix3 0 0 ⟨b.val * 220 + s.val, by omega⟩)) (shift (IntOp.remsi .vector (BitVec.ofNat 32 (b.val * 220 + s.val))
        (Scalar.select (Scalar.cmpi .eq 220#32 0#32) 1#32 220#32)))) (BitVec.ofNat 32 k.val))) : EReal) * tbl (ix2 k e) = _
  rw [hr _ rfl, rem_eq, add_shift]
  simp only [hot_eq, ite_mul, one_mul, zero_mul, Finset.sum_ite_eq', Finset.mem_univ, if_true]

end Cert.KernelIdeal.Block

end
-- ==== Proof.Final.lean ====
/- What the kernel's result array holds after the run: at an index array in range, the embedding that the two tables give. -/
module

public import proofs.«01_k».proof.Proof.Block
public import Idealize.ShloMosaic.Lib.Pipeline.ValueKit

@[expose] public section

set_option maxRecDepth 16384

noncomputable section

namespace Cert.KernelIdeal.Final

open Cert.KernelIdeal Cert.KernelIdeal.Gen Cert.Lookup Idealize.ShloMosaic Idealize.ShloMosaic.TcCoe Idealize.SL.Sem
open Idealize.ShloMosaic.Pipeline (Dat)

variable (m : (ℓ : Loc nD τ sig) → Buf (Elt Ideal) ℓ)

/-- The block index of the index array's window at point `t`. -/
theorem index0 : ∀ t : Fin cfg0.N, win0_0.index t 0 = t.val ∧ win0_0.index t 1 = 0 ∧ win0_0.index t 2 = 0 := by
  decide +kernel

/-- The block index of the joined table's window: the one block at every point. -/
theorem index1 : ∀ t : Fin cfg0.N, win0_1.index t 0 = 0 ∧ win0_1.index t 1 = 0 := by decide +kernel

/-- The block index of the result's window at point `t`. -/
theorem index2 : ∀ t : Fin cfg0.N, win0_2.index t 0 = t.val ∧ win0_2.index t 1 = 0 ∧ win0_2.index t 2 = 0 := by
  decide +kernel

/-- The block of the index array at point `t`: entry `b * 220 + s` is the index at row `128 t + b`, column `s`. -/
theorem block0 (c : Dev nD) (t : Fin cfg0.N) (b : Fin 128) (s : Fin 220) (j : Fin 28160) (hj : j.val = b.val * 220 + s.val)
    (B : Fin 4096) (hB : B.val = 128 * t.val + b.val) :
    iblk m c 0 t (ix3 0 0 j : S1x1x28160.Idx) = m ((c : Thread nD τ).loc main_arg0) (ix2 B s) := by
  blk_simp [iblk]
  have e : (win0_0.blk t).view.emb (ix3 0 0 j : S1x1x28160.Idx) = (ix3 (⟨t.val, t.isLt⟩ : Fin 32) 0 j : S32x1x28160.Idx) := by
    blk_ext [index0 t]
  rw [e]
  entry_read
  pointwise
  show m ((c : Thread nD τ).loc main_arg0) (ix2 (⟨t.val * 128 + j.val / 220, _⟩ : Fin 4096) (⟨j.val % 220, _⟩ : Fin 220)) = _
  congr 2
  · apply Fin.ext; show t.val * 128 + j.val / 220 = B.val; omega
  · apply Fin.ext; show j.val % 220 = s.val; omega

/-- The joined table's block, at every point: rows 0 to 19 are the prompt table's, rows 20 to 39 the shared table's first twenty. -/
theorem block1 (c : Dev nD) (t : Fin cfg0.N) (s : Fin 220) (r : Fin 20) (e : Fin 64) :
    iblk m c 1 t (ix2 (Block.slot s r) e : S40x64.Idx)
      = if s.val < 20 then m ((c : Thread nD τ).loc main_arg2) (ix2 r e) else m ((c : Thread nD τ).loc main_arg1) (ix2 (wide r) e) := by
  blk_simp [iblk]
  have e : (win0_1.blk t).view.emb (ix2 (Block.slot s r) e : S40x64.Idx) = (ix2 (Block.slot s r) e : S40x64.Idx) := by
    blk_ext [index1 t]
  rw [e]
  entry_read
  by_cases hs : s.val < 20
  · have h : Block.slot s r = ⟨r.val, by omega⟩ := by unfold Block.slot; rw [if_pos hs]
    rw [h, if_pos hs]
    pointwise
  · have h : Block.slot s r = ⟨20 + r.val, by omega⟩ := by unfold Block.slot; rw [if_neg hs]
    rw [h, if_neg hs]
    pointwise
    rfl

/-- THE KERNEL'S VALUE: with every index word in range, the result array after the run is the embedding that the two
    tables give. -/
theorem final (c : Dev nD) (ids : IVec Ids 32) (hids : m ((c : Thread nD τ).loc main_arg0) = ids) (hr : InRange ids) :
    (dats m 0 c).arrAt 2 cfg0.N
      = fun i : Out.Idx => embed ids (m ((c : Thread nD τ).loc main_arg1)) (m ((c : Thread nD τ).loc main_arg2)) (i 0) (i 1) (i 2) := by
  refine (dats m 0 c).arrAt_eq_of_covers 2 _ (by decide +kernel) fun t hf y => ?_
  blk_simp [index2 t]
  rw [after0_2]
  frame_out
  have key : ∀ (b : Fin 128) (s : Fin 220) (e : Fin 64), k0_pay1 (F := Ideal) (iblk m c 0 t) (iblk m c 1 t) (ix3 b s e)
      = embed ids (m ((c : Thread nD τ).loc main_arg1)) (m ((c : Thread nD τ).loc main_arg2))
          ⟨128 * t.val + b.val, by have h : t.val < 32 := t.isLt; omega⟩ s e := fun b s e => by
    refine (Block.pay_apply _ _ b s e _ fun j hj =>
      (block0 m c t b s j hj ⟨128 * t.val + b.val, by have h : t.val < 32 := t.isLt; omega⟩ rfl).trans ?_).trans (block1 m c t s _ e)
    rw [hids]
    exact eq_ofNat_row _ (hr _ _)
  have hy : y = (ix3 (y 0 : Fin 128) (y 1 : Fin 220) (y 2 : Fin 64) : S128x220x64.Idx) := eq_ix3 y
  refine (congrArg (k0_pay1 (F := Ideal) (iblk m c 0 t) (iblk m c 1 t)) hy).trans ((key _ _ _).trans ?_)
  congr 1
  all_goals apply Fin.ext; blk_simp [index2 t]
  exact congrArg (· + (y 0).val) (Nat.mul_comm 128 t.val)

end Cert.KernelIdeal.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.KernelIdeal.Value
public import proofs.«01_k».proof.Proof.Gen.ReferenceIdeal.Run
public import proofs.«01_k».proof.Proof.Pre
public import proofs.«01_k».proof.Proof.Ref
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: from every memory it runs, leaves its arguments as they were, and has no semaphore to leave. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩)
    (Cert.ReferenceIdeal.Value.run (F := Ideal) m ρ)

/-- The kernel and the reference, from memories that agree on the arguments and whose index words are in range, end with
    the same result: the embedding that the two tables give. -/
theorem same_result : Cert.algebraic_KernelIdeal_ReferenceIdeal_pre_in_range := by
  intro m ρ m' ρ' hpre hagree
  refine ⟨fun c => (Cert.KernelIdeal.Gen.dats m 0 c).arrAt 2 Cert.KernelIdeal.cfg0.N,
    Cert.KernelIdeal.Value.run_blocks m ρ, (θ_run _ _ _).mono (fun r h c => ⟨(h c).1.trans ?_, (h c).2⟩)
      (Cert.ReferenceIdeal.Value.run (F := Ideal) m' ρ')⟩
  obtain ⟨h0, h1, h2⟩ := hagree c
  have hr : Cert.Lookup.InRange (m ((c.tc : Thread Cert.KernelIdeal.nD Cert.KernelIdeal.τ).loc Cert.KernelIdeal.main_arg0)) :=
    Cert.Pre_in_range.Read.inRange _ _ _ (hpre c)
  refine Eq.trans ?_ (Cert.KernelIdeal.Final.final m c _ rfl hr).symm
  funext i
  refine (congrArg (Cert.ReferenceIdeal.Value.res_out0 (F := Ideal) m' c) (eq_ix3 i)).trans ?_
  refine (Cert.ReferenceIdeal.Lookup.res_apply m' c _ h0 hr (i 0) (i 1) (i 2)).trans ?_
  rw [h1, h2]

/-- Every claim: the three frames (the two that the value claim adds are the same facts under its precondition), the
    idealized program as the kernel's own, and the equality of the two results. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  trivial,
  same_result⟩

end Cert.Proof

end
